-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.BufferStatement Cert.KernelIdeal.S56x2x1024 Cert.KernelIdeal.S56x1x1024
  ∧ IdealRules.bf16_pair.Statement Cert.KernelIdeal.S112x1024 Cert.KernelIdeal.S56x1024
  ∧ IdealRules.bf16_pair.Statement Cert.KernelIdeal.S56x2x1024 Cert.KernelIdeal.S56x1x1024
  ∧ IdealRules.bf16_pair.Statement Cert.KernelIdeal.S1x2x512 Cert.KernelIdeal.S1x1x512
  ∧ IdealRules.bf16_pair.Statement Cert.KernelIdeal.S32x512 Cert.KernelIdeal.S16x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S96x1x3584 : Shape := ⟨3, ![96, 1, 3584]⟩
abbrev S1792x37888 : Shape := ⟨2, ![1792, 37888]⟩
abbrev S112x37888 : Shape := ⟨2, ![112, 37888]⟩
abbrev S96x3584 : Shape := ⟨2, ![96, 3584]⟩
abbrev S96x37888 : Shape := ⟨2, ![96, 37888]⟩
abbrev S1792x1024 : Shape := ⟨2, ![1792, 1024]⟩
abbrev S112x1024 : Shape := ⟨2, ![112, 1024]⟩
abbrev S96x1024 : Shape := ⟨2, ![96, 1024]⟩
abbrev S56x1024 : Shape := ⟨2, ![56, 1024]⟩
abbrev S256x256 : Shape := ⟨2, ![256, 256]⟩
abbrev S96x256 : Shape := ⟨2, ![96, 256]⟩
abbrev S128x512 : Shape := ⟨2, ![128, 512]⟩
abbrev S32x512 : Shape := ⟨2, ![32, 512]⟩
abbrev S32x1x512 : Shape := ⟨3, ![32, 1, 512]⟩
abbrev S32x8x512 : Shape := ⟨3, ![32, 8, 512]⟩
abbrev S256x512 : Shape := ⟨2, ![256, 512]⟩
abbrev S1x512 : Shape := ⟨2, ![1, 512]⟩
abbrev S16x512 : Shape := ⟨2, ![16, 512]⟩
abbrev S96x512 : Shape := ⟨2, ![96, 512]⟩

abbrev nBuf : Space → Nat
  | .hbm => 5
  | .vmem => 10
  | .smem => 0
  | _ => 0

abbrev bufTy : (tb : Table) → Fin (tcTables nBuf tb) → BufTy
  | .hbm, ⟨0, _⟩ => ⟨S96x1x3584, .bf16⟩
  | .hbm, ⟨1, _⟩ => ⟨S1792x37888, .i8⟩
  | .hbm, ⟨2, _⟩ => ⟨S112x37888, .bf16⟩
  | .hbm, ⟨3, _⟩ => ⟨S96x3584, .bf16⟩
  | .hbm, ⟨4, _⟩ => ⟨S96x37888, .bf16⟩
  | .local _ .vmem, ⟨0, _⟩ => ⟨S96x3584, .bf16⟩
  | .local _ .vmem, ⟨1, _⟩ => ⟨S1792x1024, .i8⟩
  | .local _ .vmem, ⟨2, _⟩ => ⟨S1792x1024, .i8⟩
  | .local _ .vmem, ⟨3, _⟩ => ⟨S112x1024, .bf16⟩
  | .local _ .vmem, ⟨4, _⟩ => ⟨S112x1024, .bf16⟩
  | .local _ .vmem, ⟨5, _⟩ => ⟨S96x1024, .bf16⟩
  | .local _ .vmem, ⟨6, _⟩ => ⟨S96x1024, .bf16⟩
  | .local _ .vmem, ⟨7, _⟩ => ⟨S96x3584, .bf16⟩
  | .local _ .vmem, ⟨8, _⟩ => ⟨S56x1024, .i32⟩
  | .local _ .vmem, ⟨9, _⟩ => ⟨S56x1024, .i32⟩
  | _, _ => ⟨S96x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨1, ![37], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S96x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1792x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S112x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S96x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
abbrev S56x2x1024 : Shape := ⟨3, ![56, 2, 1024]⟩
abbrev S56x1x1024 : Shape := ⟨3, ![56, 1, 1024]⟩
abbrev S1x2x512 : Shape := ⟨3, ![1, 2, 512]⟩
abbrev S1x1x512 : Shape := ⟨3, ![1, 1, 512]⟩
  | .local _ .vmem, ⟨8, _⟩ => ⟨S56x2x1024, .bf16⟩
  | .local _ .vmem, ⟨9, _⟩ => ⟨S56x2x1024, .bf16⟩
variable {F : FTy → Type} [FloatOps F]
-- ==== ReferenceIdeal.lean ====
abbrev S96x1x3584 : Shape := ⟨3, ![96, 1, 3584]⟩
abbrev S1792x37888 : Shape := ⟨2, ![1792, 37888]⟩
abbrev S112x37888 : Shape := ⟨2, ![112, 37888]⟩
abbrev S112x16x37888 : Shape := ⟨3, ![112, 16, 37888]⟩
abbrev S_ : Shape := ⟨0, ![]⟩
abbrev S112x1x37888 : Shape := ⟨3, ![112, 1, 37888]⟩
abbrev S96x1x112x32 : Shape := ⟨4, ![96, 1, 112, 32]⟩
abbrev S96x1x112x16 : Shape := ⟨4, ![96, 1, 112, 16]⟩
abbrev S96x1x37888 : Shape := ⟨3, ![96, 1, 37888]⟩
abbrev S96x37888 : Shape := ⟨2, ![96, 37888]⟩

abbrev nBuf : Space → Nat
  | .hbm => 33
  | .vmem => 0
  | .smem => 0
  | _ => 0

abbrev bufTy : (tb : Table) → Fin (tcTables nBuf tb) → BufTy
  | .hbm, ⟨0, _⟩ => ⟨S96x1x3584, .bf16⟩
  | .hbm, ⟨1, _⟩ => ⟨S1792x37888, .i8⟩
  | .hbm, ⟨2, _⟩ => ⟨S112x37888, .bf16⟩
  | .hbm, ⟨3, _⟩ => ⟨S1792x37888, .i32⟩
  | .hbm, ⟨4, _⟩ => ⟨S112x16x37888, .i32⟩
  | .hbm, ⟨5, _⟩ => ⟨S_, .i32⟩
  | .hbm, ⟨6, _⟩ => ⟨S112x16x37888, .i32⟩
  | .hbm, ⟨7, _⟩ => ⟨S112x16x37888, .i32⟩
  | .hbm, ⟨8, _⟩ => ⟨S112x16x37888, .bf16⟩
  | .hbm, ⟨9, _⟩ => ⟨S_, .bf16⟩
  | .hbm, ⟨10, _⟩ => ⟨S112x16x37888, .bf16⟩
  | .hbm, ⟨11, _⟩ => ⟨S112x16x37888, .bf16⟩
  | .hbm, ⟨12, _⟩ => ⟨S112x1x37888, .bf16⟩
  | .hbm, ⟨13, _⟩ => ⟨S112x16x37888, .bf16⟩
  | .hbm, ⟨14, _⟩ => ⟨S112x16x37888, .bf16⟩
  | .hbm, ⟨15, _⟩ => ⟨S_, .i32⟩
  | .hbm, ⟨16, _⟩ => ⟨S112x16x37888, .i32⟩
  | .hbm, ⟨17, _⟩ => ⟨S112x16x37888, .i32⟩
  | .hbm, ⟨18, _⟩ => ⟨S112x16x37888, .bf16⟩
  | .hbm, ⟨19, _⟩ => ⟨S_, .bf16⟩
  | .hbm, ⟨20, _⟩ => ⟨S112x16x37888, .bf16⟩
  | .hbm, ⟨21, _⟩ => ⟨S112x16x37888, .bf16⟩
  | .hbm, ⟨22, _⟩ => ⟨S112x1x37888, .bf16⟩
  | .hbm, ⟨23, _⟩ => ⟨S112x16x37888, .bf16⟩
  | .hbm, ⟨24, _⟩ => ⟨S112x16x37888, .bf16⟩
  | .hbm, ⟨25, _⟩ => ⟨S96x1x112x32, .bf16⟩
  | .hbm, ⟨26, _⟩ => ⟨S96x1x112x16, .bf16⟩
  | .hbm, ⟨27, _⟩ => ⟨S96x1x112x16, .bf16⟩
  | .hbm, ⟨28, _⟩ => ⟨S96x1x37888, .f32⟩
  | .hbm, ⟨29, _⟩ => ⟨S96x1x37888, .f32⟩
  | .hbm, ⟨30, _⟩ => ⟨S96x1x37888, .f32⟩
  | .hbm, ⟨31, _⟩ => ⟨S96x1x37888, .bf16⟩
  | .hbm, ⟨32, _⟩ => ⟨S96x37888, .bf16⟩
  | _, _ => ⟨S96x1x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Proof.Q4.Block.lean ====
/-
  The kernel's body written once, over its loop counters. The printed body repeats the same arithmetic for every pair of a
  column half and a 256-row chunk; here each stage is one definition over those two counters, and `Points.lean` shows that
  the printed body is these definitions at every counter.
-/
module

public import proofs.«01_k».proof.Proof.Gen.KernelIdeal.Skeleton
public import Idealize.ShloMosaic.Lib.Pipeline.Value

@[expose] public section

noncomputable section

namespace Cert.Q4

open Cert.KernelIdeal Cert.KernelIdeal.Gen Idealize.ShloMosaic

variable {F : FTy → Type} [FloatOps F]

/-- The 256 signed codes held in 128 rows of bytes: two codes to a byte, the low half of the byte first. Each 32-bit word
    of four bytes is complemented in the top bit of each of its eight fields, then shifted so that one field is sign-extended. -/
def codes (w : Vec F S128x512 .i8) : FVec F S256x512 .bf16 :=
  sitofp .bf16 (shapeCast S256x512 (shrsi (shli (shrsi
    (broadcastTo S32x8x512 (shapeCast S32x1x512 (shapeCast S32x1x512
      (xori (bitcast S32x512 32 w bitcasts_S128x512_w8_S32x512_w32) (broadcast S32x512 2290649224#32))
      shapeCasts_S32x512_S32x1x512) shapeCasts_S32x1x512_S32x1x512) broadcasts_S32x1x512_S32x8x512)
    (muli (broadcast S32x8x512 4#32) (iota .tc S32x8x512 32 [1] iota_S32x8x512_d1_w32)))
    (broadcast S32x8x512 28#32)) (broadcast S32x8x512 28#32)) shapeCasts_S32x8x512_S256x512)

/-- One of the two rows of a loaded pair of scale rows. -/
def pairRow (p : Fin 2) (raw : Vec F S1x2x512 .bf16) : FVec F S1x512 .bf16 :=
  shapeCast S1x512 (rowsOfParity p S1x1x512 raw bitcasts_S1x2x512_w16_S1x1x512_w32) shapeCasts_S1x1x512_S1x512

/-- Sixteen copies of a row. -/
def stack16 (r : FVec F S1x512 .bf16) : FVec F S16x512 .bf16 :=
  concatenate S16x512 0 (List.ofFn fun _ : Fin 16 => ⟨S1x512, r⟩)
    concatenates_S1x512_S1x512_S1x512_S1x512_S1x512_S1x512_S1x512_S1x512_S1x512_S1x512_S1x512_S1x512_S1x512_S1x512_S1x512_S1x512_S16x512_d0

/-- The pair of scale rows spread over the 32 rows of a group. -/
def spread (raw : Vec F S1x2x512 .bf16) : FVec F S32x512 .bf16 :=
  interleaveRows S32x512 (stack16 (pairRow 0 raw)) (stack16 (pairRow 1 raw)) bitcasts_S32x512_w16_S16x512_w32

/-- A group's 32 rows lie within the 256 of its chunk. -/
theorem groups_slice (g : Fin 8) : S256x512.Slices ![32 * g.val, 0] S32x512 := by
  revert g; decide

/-- The 256 dequantized rows of a chunk: its eight groups of 32 codes, each times its group's scales. -/
def weights (c : FVec F S256x512 .bf16) (raw : Fin 8 → Vec F S1x2x512 .bf16) : FVec F S256x512 .bf16 :=
  concatenate S256x512 0 (List.ofFn fun g : Fin 8 => ⟨S32x512,
      mulf (extractStridedSlice S32x512 ![32 * g.val, 0] c (groups_slice g)) (spread (raw g))⟩)
    concatenates_S32x512_S32x512_S32x512_S32x512_S32x512_S32x512_S32x512_S32x512_S256x512_d0

/-- A chunk's contribution to half of the output block: its columns of activations times its dequantized rows. -/
def term (x : Vec F S96x256 .bf16) (w : Vec F S128x512 .i8) (raw : Fin 8 → Vec F S1x2x512 .bf16) : FVec F S96x512 .f32 :=
  matmul dot_S96x256_S256x512_S96x512_1_0_0_1_n_n none x (weights (codes w) raw) (constant S96x512 .f32 0x00000000#32)

/-- The contributions of chunks `0 … k`, added in the kernel's order. -/
def acc (x : Fin 14 → Vec F S96x256 .bf16) (w : Fin 14 → Vec F S128x512 .i8) (raw : Fin 14 → Fin 8 → Vec F S1x2x512 .bf16) :
    (k : Nat) → k < 14 → FVec F S96x512 .f32
  | 0, h => term (x ⟨0, h⟩) (w ⟨0, h⟩) (raw ⟨0, h⟩)
  | k + 1, h => addf (acc x w raw k (by omega)) (term (x ⟨k + 1, h⟩) (w ⟨k + 1, h⟩) (raw ⟨k + 1, h⟩))

/-- Half of the output block, as stored. -/
def half (x : Fin 14 → Vec F S96x256 .bf16) (w : Fin 14 → Vec F S128x512 .i8) (raw : Fin 14 → Fin 8 → Vec F S1x2x512 .bf16) :
    FVec F S96x512 .bf16 :=
  truncf .bf16 (acc x w raw 13 (by decide)) bitsLt_bf16_f32

/-- Where the body finds chunk `k`'s columns of activations, -/
abbrev xRect (k : Fin 14) : Rect S96x3584 := Rect.unit ![0, 256 * k.val] S96x256.size (by
  have := k.isLt; intro a; fin_cases a <;> simp <;> omega)

/-- … chunk `k`'s rows of bytes, the columns of half `n`, -/
abbrev wRect (n : Fin 2) (k : Fin 14) : Rect S1792x1024 := Rect.unit ![128 * k.val, 512 * n.val] S128x512.size (by
  have := k.isLt; have := n.isLt; intro a; fin_cases a <;> simp <;> omega)

/-- … and the scale pair of group `g` of chunk `k`, the columns of half `n`. -/
abbrev sRect (n : Fin 2) (k : Fin 14) (g : Fin 8) : Rect S56x2x1024 :=
  Rect.unit ![4 * k.val + g.val / 2, 0, 512 * n.val] S1x2x512.size (by
    have := k.isLt; have := g.isLt; have := n.isLt; intro a; fin_cases a <;> simp <;> omega)

/-- The scale pairs loaded in half `n`: even groups read the buffer of even rows, odd groups that of odd rows. -/
def pairs (n : Fin 2) (S : Vec F S112x1024 .bf16) (k : Fin 14) (g : Fin 8) : Vec F S1x2x512 .bf16 :=
  View.ld (Val := Elt F) (e' := .bf16) (if g.val % 2 = 0 then k0_pay18 S else k0_pay19 S) (sRect n k g)

/-- Half `n` of the output block from the rearranged activations `X`, the block's bytes `W` and its scales `S`. -/
def halfOf (n : Fin 2) (X : Vec F S96x3584 .bf16) (W : Vec F S1792x1024 .i8) (S : Vec F S112x1024 .bf16) :
    FVec F S96x512 .bf16 :=
  half (fun k => View.ld (Val := Elt F) (e' := .bf16) X (xRect k)) (fun k => View.ld (Val := Elt F) (e' := .i8) W (wRect n k))
    (pairs n S)

/-- The output block: its two halves side by side. -/
def blockOf (X : Vec F S96x3584 .bf16) (W : Vec F S1792x1024 .i8) (S : Vec F S112x1024 .bf16) : Vec F S96x1024 .bf16 :=
  View.canon (Val := Elt F) (e := .bf16) [⟨Rect.unit ![0, 512] S96x512.size inb_S96x1024_S96x512_0_512, halfOf 1 X W S⟩,
    ⟨Rect.unit ![0, 0] S96x512.size inb_S96x1024_S96x512_0_0, halfOf 0 X W S⟩]

/-- A chunk of the activations with its columns rearranged by the permutation matrix. -/
def permChunk (x : Vec F S96x256 .bf16) : FVec F S96x256 .bf16 :=
  shapeCast S96x256 (truncf .bf16 (matmul dot_S96x256_S256x256_S96x256_1_0_0_1_n_n none
    (shapeCast S96x256 x shapeCasts_S96x256_S96x256) k0_pay1
    (constant S96x256 .f32 0x00000000#32)) bitsLt_bf16_f32) shapeCasts_S96x256_S96x256

/-- The rearranged activations: fourteen stored chunks, the last one first. -/
def permuted (X : Vec F S96x3584 .bf16) : Vec F S96x3584 .bf16 :=
  View.canon (Val := Elt F) (e := .bf16) ((List.finRange 14).reverse.map fun k =>
    ⟨xRect k, permChunk (View.ld (Val := Elt F) (e' := .bf16) X (xRect k))⟩)

end Cert.Q4

end
-- ==== Proof.Q4.Codes.lean ====
/-
  The codes at an index: row `q` of a chunk's 256 codes is half `q % 2` of byte row `q / 2`, minus 8.
-/
module

public import proofs.«01_k».proof.Proof.Q4.Block
public import Idealize.ShloMosaic.Lib.Pipeline.ValueKit
public import Idealize.ShloMosaic.Lib.BitcastFour

@[expose] public section

noncomputable section

namespace Cert.Q4

open Cert.KernelIdeal Cert.KernelIdeal.Gen Idealize.ShloMosaic

/-- The code in half `p` of a byte (the low half is half 0): an integer from −8 to 7. -/
def code (b : BitVec 8) (p : Fin 2) : ℤ := (b.toNat / 16 ^ p.val % 16 : ℕ) - 8

/-- Complementing the top bit of a field and sign-extending it subtracts 8. -/
theorem code_signExtend : ∀ (b : BitVec 8) (p : Fin 2),
    (((b ^^^ 0x88#8) >>> (4 * p.val)).setWidth 4).signExtend 32 = BitVec.ofInt 32 (code b p) := by
  decide +kernel

/-- Field `e` of a word of eight, complemented in the top bit and sign-extended, where the field is half `e % 2` of a byte. -/
theorem field (W : BitVec 32) (b : BitVec 8) (e : ℕ) (he : e < 8)
    (h : ∀ i < 4, W.getLsbD (4 * e + i) = b.getLsbD (4 * (e % 2) + i)) :
    IntOp.shrsi .vector (IntOp.shli .vector (IntOp.shrsi .vector (IntOp.xori W 2290649224#32)
      (IntOp.muli (4#32) (BitVec.ofNat 32 e))) 28#32) 28#32
      = (((b ^^^ 0x88#8) >>> (4 * (e % 2))).setWidth 4).signExtend 32 := by
  have hm : IntOp.muli (4#32) (BitVec.ofNat 32 e) = BitVec.ofNat 32 (4 * e) := by interval_cases e <;> rfl
  have hn : (BitVec.ofNat 32 (4 * e)).toNat = 4 * e := by simp; omega
  have hk : ∀ i < 4, (2290649224#32).getLsbD (4 * e + i) = (0x88#8).getLsbD (4 * (e % 2) + i) := by
    intro i hi
    interval_cases e <;> interval_cases i <;> rfl
  have hs : ∀ i < 4, ((W ^^^ 2290649224#32).sshiftRight (4 * e)).getLsbD i
      = ((b ^^^ 0x88#8) >>> (4 * (e % 2))).getLsbD i := by
    intro i hi
    rw [BitVec.getLsbD_sshiftRight, BitVec.getLsbD_ushiftRight, if_pos (by omega), BitVec.getLsbD_xor, BitVec.getLsbD_xor,
      h i hi, hk i hi]
    have : ¬32 ≤ i := by omega
    simp [this]
  rw [hm]
  unfold IntOp.shrsi IntOp.shli IntOp.xori
  rw [if_pos (by decide), if_pos (by decide), if_pos (by rw [hn]; omega)]
  unfold BitVec.sshiftRight'
  rw [hn]
  generalize (W ^^^ 2290649224#32).sshiftRight (4 * e) = V at hs ⊢
  generalize (b ^^^ 0x88#8) >>> (4 * (e % 2)) = B at hs ⊢
  apply BitVec.eq_of_getLsbD_eq
  intro i hi
  have h28 : (28#32 : BitVec 32).toNat = 28 := rfl
  rw [BitVec.getLsbD_signExtend, h28, BitVec.getLsbD_sshiftRight, BitVec.shiftLeft_eq', h28]
  have e3 := hs 3 (by omega)
  by_cases h4 : i < 4
  · have ei := hs i h4
    have h1 : ¬32 ≤ i := by omega
    have h2 : 28 + i < 32 := by omega
    simp [BitVec.getLsbD_shiftLeft, BitVec.getLsbD_setWidth, h4, h1, h2]
    rw [← BitVec.getLsbD_eq_getElem, ei]
    simp [hi]
  · have h2 : ¬ 28 + i < 32 := by omega
    rw [BitVec.getLsbD_eq_getElem (by omega), BitVec.getLsbD_eq_getElem (by omega)] at e3
    simp [BitVec.msb_eq_getLsbD_last, BitVec.getLsbD_shiftLeft, BitVec.getLsbD_setWidth, h4, e3, h2]
    simp [hi]

/-- A word of four bytes at a field of four bits, in the byte that holds it. -/
theorem word_field (w : IVec S128x512 8) (a : Fin 32) (e : Fin 8) (r : Fin 128) (hr : r.val = 4 * a.val + e.val / 2)
    (j : Fin 512) (i : ℕ) (hi : i < 4) :
    (bitcast S32x512 32 w bitcasts_S128x512_w8_S32x512_w32 (ix2 a j)).getLsbD (4 * e.val + i)
      = (w (ix2 r j)).getLsbD (4 * (e.val % 2) + i) := by
  have h8 : (4 * e.val + i) % 8 = 4 * (e.val % 2) + i := by omega
  rw [← h8]
  exact bitcast_8_32_getLsbD_ix2 w _ a j _ (by omega) r (by omega)

/-- The codes at an index. -/
theorem codes_apply (w : Vec Ideal S128x512 .i8) (q : Fin 256) (j : Fin 512) :
    codes w (ix2 q j) = ((code (w (ix2 ⟨q.val / 2, by omega⟩ j)) ⟨q.val % 2, by omega⟩ : ℝ) : EReal) := by
  have ht : ∀ (b : BitVec 8) (p : Fin 2), (BitVec.ofInt 32 (code b p)).toInt = code b p := by decide +kernel
  have hf := field (bitcast S32x512 32 w bitcasts_S128x512_w8_S32x512_w32 (ix2 ⟨q.val / 8, by omega⟩ j))
    (w (ix2 ⟨q.val / 2, by omega⟩ j)) (q.val % 8) (by omega)
    (fun i hi => word_field w ⟨q.val / 8, by omega⟩ ⟨q.val % 8, by omega⟩ ⟨q.val / 2, by omega⟩ (by
      show q.val / 2 = 4 * (q.val / 8) + q.val % 8 / 2
      omega) j i hi)
  have e : 4 * (q.val % 8 % 2) = 4 * (q.val % 2) := by omega
  have hc := code_signExtend (w (ix2 ⟨q.val / 2, by omega⟩ j)) ⟨q.val % 2, by omega⟩
  rw [e] at hf
  replace hf := hf.trans hc
  unfold codes
  pointwise
  rw [hf]
  show (((BitVec.ofInt 32 _).toInt : ℝ) : EReal) = _
  rw [ht]

end Cert.Q4

end
-- ==== Proof.Q4.Pieces.lean ====
/-
  The other stages of the block at an index, on extended reals.
-/
module

public import proofs.«01_k».proof.Proof.Q4.Codes

@[expose] public section

noncomputable section

namespace Cert.Q4

open Cert.KernelIdeal Cert.KernelIdeal.Gen Idealize.ShloMosaic

/-- A spread pair of scale rows: its rows alternate. -/
theorem spread_apply (raw : Vec Ideal S1x2x512 .bf16) (q : Fin 32) (j : Fin 512) :
    spread raw (ix2 q j) = raw (ix3 0 ⟨q.val % 2, by omega⟩ j) := by
  have hs : ∀ (p : Fin 2) (r : Fin 16), stack16 (pairRow p raw) (ix2 r j) = raw (ix3 0 p j) := by
    intro p r
    unfold stack16
    refine (concatenate_ofFn_unit_apply (t := S16x512) (s₁ := S1x512) 0 (fun _ : Fin 16 => pairRow p raw) _ rfl rfl (ix2 r j) r rfl
      (ix2 0 j) (fun b hb => by
        match b with
        | 0 => exact absurd rfl hb
        | 1 => rfl)).trans ?_
    unfold pairRow
    pointwise
  unfold spread
  pointwise
  rcases Nat.mod_two_eq_zero_or_one q.val with h | h
  · rw [if_pos h, hs]
    congr 2
    exact Fin.ext h.symm
  · rw [if_neg (by omega), hs]
    congr 2
    exact Fin.ext h.symm

/-- A dequantized row: the code times its group's scale. -/
theorem weights_apply (c : FVec Ideal S256x512 .bf16) (raw : Fin 8 → Vec Ideal S1x2x512 .bf16) (q : Fin 256) (j : Fin 512) :
    weights c raw (ix2 q j) = c (ix2 q j) * raw ⟨q.val / 32, by omega⟩ (ix3 0 ⟨q.val % 2, by omega⟩ j) := by
  unfold weights
  refine (concatenate_ofFn_apply (t := S256x512) (s₁ := S32x512) 0
    (fun g : Fin 8 => mulf (extractStridedSlice S32x512 ![32 * g.val, 0] c (groups_slice g)) (spread (raw g))) _ rfl 32 rfl
    (ix2 q j) ⟨q.val / 32, by omega⟩ rfl (ix2 ⟨q.val % 32, by omega⟩ j) rfl (fun b hb => by
      match b with
      | 0 => exact absurd rfl hb
      | 1 => rfl)).trans ?_
  pointwise
  rw [spread_apply]
  have e : 32 * (q.val / 32) + q.val % 32 = q.val := by omega
  have e2 : q.val % 32 % 2 = q.val % 2 := by omega
  simp only [e, e2]

/-- The scale pairs: both rows of pair `g` of chunk `k` are row `8 k + g` of the scales. -/
theorem pairs_apply (n : Fin 2) (S : Vec Ideal S112x1024 .bf16) (k : Fin 14) (g : Fin 8) (t : Fin 2) (j : Fin 512) :
    pairs n S k g (ix3 0 t j) = S (ix2 ⟨8 * k.val + g.val, by omega⟩ ⟨512 * n.val + j.val, by omega⟩) := by
  unfold pairs
  split
  · unfold k0_pay18
    pointwise
    split
    all_goals
      congr 2
      exact Fin.ext (by show 2 * (4 * k.val + g.val / 2) = 8 * k.val + g.val; omega)
  · unfold k0_pay19
    pointwise
    split
    all_goals
      congr 2
      exact Fin.ext (by show 2 * (4 * k.val + g.val / 2) + 1 = 8 * k.val + g.val; omega)

/-- A chunk's contribution. -/
theorem term_apply (x : Vec Ideal S96x256 .bf16) (w : Vec Ideal S128x512 .i8) (raw : Fin 8 → Vec Ideal S1x2x512 .bf16)
    (i : Fin 96) (j : Fin 512) : term x w raw (ix2 i j) = ∑ q : Fin 256, x (ix2 i q) *
      (((code (w (ix2 ⟨q.val / 2, by omega⟩ j)) ⟨q.val % 2, by omega⟩ : ℝ) : EReal)
        * raw ⟨q.val / 32, by omega⟩ (ix3 0 ⟨q.val % 2, by omega⟩ j)) := by
  unfold term
  pointwise
  simp only [weights_apply, codes_apply]

/-- Half of the output block, before its columns of activations, bytes and scales are named. -/
theorem half_apply (x : Fin 14 → Vec Ideal S96x256 .bf16) (w : Fin 14 → Vec Ideal S128x512 .i8)
    (raw : Fin 14 → Fin 8 → Vec Ideal S1x2x512 .bf16) (i : Fin 96) (j : Fin 512) :
    half x w raw (ix2 i j) = ∑ k : Fin 14, term (x k) (w k) (raw k) (ix2 i j) := by
  have h : ∀ (k : ℕ) (hk : k < 14), acc x w raw k hk (ix2 i j)
      = ∑ k' : Fin (k + 1), term (x ⟨k', by omega⟩) (w ⟨k', by omega⟩) (raw ⟨k', by omega⟩) (ix2 i j) := by
    intro k
    induction k with
    | zero => intro hk; simp [acc]
    | succ k ih =>
      intro hk
      rw [Fin.sum_univ_castSucc, acc]
      show acc x w raw k _ (ix2 i j) + _ = _
      rw [ih]
      rfl
  unfold half
  exact h 13 (by decide)

end Cert.Q4

end
-- ==== Proof.Q4.Permute.lean ====
/-
  The rearranged activations at an index: within each group of 32 columns, column `2 j + t` is column `16 t + j` of the
  activations. Multiplying by a column of zeros and a single one picks one entry, whatever the others are.
-/
module

public import proofs.«01_k».proof.Proof.Q4.Block
public import Idealize.ShloMosaic.Lib.Pipeline.ValueKit

@[expose] public section

noncomputable section

namespace Cert.Q4

open Cert.KernelIdeal Cert.KernelIdeal.Gen Idealize.ShloMosaic

/-- The column that the permutation puts at column `q`. -/
def src (q : ℕ) : ℕ := 32 * (q / 32) + 16 * (q % 2) + q % 32 / 2

theorem src_lt (q K : ℕ) (h : q < 32 * K) : src q < 32 * K := by unfold src; omega

/-- The kernel's words for it, at the 256 columns of a chunk. -/
theorem src_word : ∀ q : Fin 256, IntOp.addi (IntOp.addi (IntOp.andi (BitVec.ofNat 32 q.val) 4294967264#32)
    (IntOp.muli (IntOp.andi (BitVec.ofNat 32 q.val) 1#32) 16#32))
    (IntOp.shrsi .vector (IntOp.andi (BitVec.ofNat 32 q.val) 31#32) 1#32) = BitVec.ofNat 32 (src q.val) := by
  decide +kernel

/-- The permutation matrix: one where the row is the column's source. -/
theorem matrix_apply (r q : Fin 256) : k0_pay1 (F := Ideal) (ix2 r q) = if r.val = src q.val then 1 else 0 := by
  have hq := src_word q
  have hr : src q.val < 256 := src_lt q.val 8 (by omega)
  unfold k0_pay1
  pointwise
  rw [hq]
  have e : BitVec.ofNat 32 r.val = BitVec.ofNat 32 (src q.val) ↔ r.val = src q.val := by
    constructor
    · intro h
      have h2 := congrArg BitVec.toNat h
      rwa [BitVec.toNat_ofNat, BitVec.toNat_ofNat, Nat.mod_eq_of_lt (by omega), Nat.mod_eq_of_lt (by omega)] at h2
    · exact fun h => by rw [h]
  unfold Scalar.select
  exact if_congr (IntOp.cmpi_eq.trans e) rfl rfl

/-- A rearranged chunk. -/
theorem permChunk_apply (x : Vec Ideal S96x256 .bf16) (i : Fin 96) (q : Fin 256) :
    permChunk x (ix2 i q) = x (ix2 i ⟨src q.val, src_lt q.val 8 (by omega)⟩) := by
  unfold permChunk
  pointwise
  simp only [matrix_apply]
  rw [Finset.sum_eq_single (⟨src q.val, src_lt q.val 8 (by omega)⟩ : Fin 256)]
  · rw [if_pos rfl, mul_one]
  · intro r _ hr
    rw [if_neg fun h => hr (Fin.ext h), mul_zero]
  · exact fun h => absurd (Finset.mem_univ _) h

/-- Where a chunk's columns lie. -/
theorem xRect_emb (k : Fin 14) (i : Fin 96) (q : Fin 256) :
    (xRect k).emb (ix2 i q) = ix2 i (⟨256 * k.val + q.val, by omega⟩ : Fin 3584) := by
  funext a
  apply Fin.ext
  match a with
  | 0 => show 0 + 1 * i.val = i.val; omega
  | 1 => show 256 * k.val + 1 * q.val = 256 * k.val + q.val; omega

/-- A group of 32 columns never crosses a chunk's edge: the rearranged chunk is the chunk of the rearranged array. -/
theorem chunk_eq (X : Vec Ideal S96x3584 .bf16) (k : Fin 14) (y : S96x256.Idx) :
    permChunk (View.ld (Val := Elt Ideal) (e' := .bf16) X (xRect k)) y
      = (fun z : S96x3584.Idx => X (ix2 (z 0) ⟨src (z 1).val, src_lt _ 112 (z 1).isLt⟩)) ((xRect k).emb y) := by
  obtain ⟨i, q, rfl⟩ : ∃ (i : Fin 96) (q : Fin 256), y = ix2 i q := ⟨y 0, y 1, eq_ix2 y⟩
  rw [permChunk_apply]
  show X ((xRect k).emb (ix2 i _)) = _
  rw [xRect_emb, xRect_emb]
  congr 2
  apply Fin.ext
  show 256 * k.val + src q.val = src (256 * k.val + q.val)
  unfold src
  omega

/-- The rearranged activations. -/
theorem permuted_apply (X : Vec Ideal S96x3584 .bf16) (i : Fin 96) (q : Fin 3584) :
    permuted X (ix2 i q) = X (ix2 i ⟨src q.val, src_lt q.val 112 (by omega)⟩) := by
  unfold permuted
  refine View.canon_apply_of_pieces (fun z : S96x3584.Idx => X (ix2 (z 0) ⟨src (z 1).val, src_lt _ 112 (z 1).isLt⟩)) _ ?_ _ ?_
  · intro p hp y
    obtain ⟨k, -, rfl⟩ := List.mem_map.mp hp
    exact chunk_eq X k y
  · refine ⟨_, List.mem_map.mpr ⟨⟨q.val / 256, by omega⟩, by simp, rfl⟩, ?_⟩
    have e : ix2 i q = (xRect ⟨q.val / 256, by omega⟩).emb (ix2 i (⟨q.val % 256, by omega⟩ : Fin 256)) := by
      rw [xRect_emb]
      congr 1
      apply Fin.ext
      show q.val = 256 * (q.val / 256) + q.val % 256
      omega
    rw [e]
    exact (xRect _).toLoadRect.idx_mem _

end Cert.Q4

end
-- ==== Proof.Q4.Points.lean ====
/-
  What the kernel leaves at each point of its grid, in the terms of `Block.lean`: at the first point the rearranged
  activations go to the scratch; at every point the output block is computed from the scratch, the block's bytes and the
  block's scales.
-/
module

public import proofs.«01_k».proof.Proof.Q4.Block
public import proofs.«01_k».proof.Proof.Gen.KernelIdeal.Value

@[expose] public section

set_option maxRecDepth 16384

noncomputable section

namespace Cert.Q4

open Cert.KernelIdeal Cert.KernelIdeal.Gen Cert.KernelIdeal.Value Idealize.ShloMosaic Idealize.ShloMosaic.TcCoe Idealize.ShloMosaic.Tactic

variable {F : FTy → Type} [FloatOps F]

/-- The offsets of a whole buffer of pairs are zero. -/
theorem zero3 : (![0, 0, 0] : Fin S56x2x1024.rank → Nat) = fun _ => 0 := by funext a; fin_cases a <;> rfl

/-- A load from a buffer of pairs stored whole reads what was stored. -/
theorem readCov_pairs (v : View sig .tc .vmem S56x2x1024 .bf16) (D : Vec F S56x2x1024 .bf16) (r : Rect S56x2x1024) :
    v.readCov (Val := Elt F) [⟨Rect.unit ![0, 0, 0] S56x2x1024.size inb_S56x2x1024_S56x2x1024_0_0_0, D⟩] r.toLoadRect
      = View.ld (Val := Elt F) D r := by
  rw [View.readCov_eq_canon', View.canon_unit_zero zero3]

/-- The load of the whole scale block reads it. -/
theorem ld_scales (S : Vec F S112x1024 .bf16) :
    View.ld (Val := Elt F) (e' := .bf16) S (Rect.unit ![0, 0] S112x1024.size inb_S112x1024_S112x1024_0_0) = S :=
  View.ld_unit_zero (by funext a; fin_cases a <;> rfl) _ S

/-- The pairs a point loads, as the run names them: from the two buffers it has just filled from its scale block. -/
def loadedPairs (arg3 : Memref sig .tc .vmem S112x1024 .bf16) (harg3 : arg3.IsWhole)
    (arg6 arg7 : Memref sig .tc .vmem S56x2x1024 .bf16) (S : Vec F S112x1024 .bf16) (n : Fin 2) (k : Fin 14) (g : Fin 8) :
    Vec F S1x2x512 .bf16 :=
  if g.val % 2 = 0 then
    arg6.view.readCov (Val := Elt F) [⟨Rect.unit ![0, 0, 0] S56x2x1024.size inb_S56x2x1024_S56x2x1024_0_0_0, k0_pay18
      (arg3.view.readAt (Elt F) (Rect.unit ![0, 0] S112x1024.size inb_S112x1024_S112x1024_0_0).toLoadRect (harg3.unread S))⟩]
      (sRect n k g).toLoadRect
  else
    arg7.view.readCov (Val := Elt F) [⟨Rect.unit ![0, 0, 0] S56x2x1024.size inb_S56x2x1024_S56x2x1024_0_0_0, k0_pay19
      (arg3.view.readAt (Elt F) (Rect.unit ![0, 0] S112x1024.size inb_S112x1024_S112x1024_0_0).toLoadRect (harg3.unread S))⟩]
      (sRect n k g).toLoadRect

/-- They are the scale block's pairs. -/
theorem loadedPairs_eq (arg3 : Memref sig .tc .vmem S112x1024 .bf16) (harg3 : arg3.IsWhole)
    (arg6 arg7 : Memref sig .tc .vmem S56x2x1024 .bf16) (S : Vec F S112x1024 .bf16) (n : Fin 2) :
    loadedPairs arg3 harg3 arg6 arg7 S n = pairs n S := by
  have e : arg3.view.readAt (Elt F) (Rect.unit ![0, 0] S112x1024.size inb_S112x1024_S112x1024_0_0).toLoadRect (harg3.unread S) = S := by
    rw [View.readAt_eq_ld, harg3.read_unread, ld_scales]
  funext k g
  unfold loadedPairs pairs
  rw [e]
  split
  · rw [readCov_pairs]
  · rw [readCov_pairs]

/-- The chunks a point loads from a memref it holds whole, as the run names them, are those of the contents. -/
theorem loadedX_eq (a : Memref sig .tc .vmem S96x3584 .bf16) (h : a.IsWhole) (X : Vec F S96x3584 .bf16) :
    (fun k => a.view.readAt (Elt F) (xRect k).toLoadRect (h.unread X)) = fun k => View.ld (Val := Elt F) (e' := .bf16) X (xRect k) := by
  funext k; rw [View.readAt_eq_ld, h.read_unread]

/-- The same for the bytes. -/
theorem loadedW_eq (a : Memref sig .tc .vmem S1792x1024 .i8) (h : a.IsWhole) (n : Fin 2) (W : Vec F S1792x1024 .i8) :
    (fun k => a.view.readAt (Elt F) (wRect n k).toLoadRect (h.unread W)) = fun k => View.ld (Val := Elt F) (e' := .i8) W (wRect n k) := by
  funext k; rw [View.readAt_eq_ld, h.read_unread]

variable (c : Dev nD) (i : grid0.Coords)
  (arg1 : Memref sig .tc .vmem S96x3584 .bf16) (harg1 : arg1.IsWhole) (arg2 : Memref sig .tc .vmem S1792x1024 .i8) (harg2 : arg2.IsWhole)
  (arg3 : Memref sig .tc .vmem S112x1024 .bf16) (harg3 : arg3.IsWhole) (arg4 : Memref sig .tc .vmem S96x1024 .bf16) (harg4 : arg4.IsWhole)
  (arg5 : Memref sig .tc .vmem S96x3584 .bf16) (harg5 : arg5.IsWhole) (arg6 : Memref sig .tc .vmem S56x2x1024 .bf16) (harg6 : arg6.IsWhole)
  (arg7 : Memref sig .tc .vmem S56x2x1024 .bf16) (harg7 : arg7.IsWhole)
  (X : Vec F S96x3584 .bf16) (W : Vec F S1792x1024 .i8) (S : Vec F S112x1024 .bf16)

/-- After the first point, every point computes its output block from the scratch as it finds it. -/
theorem out_later (hc0 : ¬cond0_0 i) (P : Vec F S96x3584 .bf16) :
    out0_B_3 (F := F) c i arg1 harg1 arg2 harg2 arg3 harg3 arg4 harg4 arg5 harg5 arg6 harg6 arg7 harg7 hc0 X W S P
      = blockOf P W S := by
  unfold out0_B_3
  rw [View.read_writes_eq_canon _ _ _ (cover0_B_3 c _ _ _ _ _ _ _ _ _ _ _ _ _ _ _ _ _ _ _ _)]
  unfold kernelRun0_B blockOf halfOf
  simp only [← loadedPairs_eq arg3 harg3 arg6 arg7 S, ← loadedX_eq arg5 harg5 P, ← loadedW_eq arg2 harg2 _ W]
  rfl

/-- The scratch keeps its contents after the first point. -/
theorem scratch_later (hc0 : ¬cond0_0 i) (P : Vec F S96x3584 .bf16) :
    sout0_B_0 (F := F) c i arg1 harg1 arg2 harg2 arg3 harg3 arg4 harg4 arg5 harg5 arg6 harg6 arg7 harg7 hc0 X W S P = P := by
  rfl

/-- The first point's stores into the scratch, as the run names them. -/
theorem stores_first : kernelRun0_A.sl.HS0_14 (F := F) c arg1 harg1 X
    = (List.finRange 14).reverse.map fun k => ⟨xRect k, permChunk (arg1.view.readAt (Elt F) (xRect k).toLoadRect (harg1.unread X))⟩ := by
  rfl

/-- The first point leaves the rearranged activations in the scratch. -/
theorem scratch_first (hc0 : cond0_0 i) :
    sout0_A_0 (F := F) c i arg1 harg1 arg2 harg2 arg3 harg3 arg4 harg4 arg5 harg5 arg6 harg6 arg7 harg7 hc0 X W S = permuted X := by
  unfold sout0_A_0
  rw [View.read_writes_eq_canon _ _ _ (scover0_A_0 c _ _ _ _ _ _ _ _ _ _ _ _ _ _ _ _ _ _ _)]
  unfold kernelRun0_A permuted
  simp only [← congrFun (loadedX_eq arg1 harg1 X)]
  exact congrArg _ (stores_first c arg1 harg1 X)

/-- The first point reads the scratch back after its fourteen stores. -/
theorem rereads_first :
    (fun k => arg5.view.readCov (Val := Elt F) (kernelRun0_A.sl.HS0_14 (F := F) c arg1 harg1 X) (xRect k).toLoadRect)
      = fun k => View.ld (Val := Elt F) (e' := .bf16) (permuted X) (xRect k) := by
  funext k
  rw [View.readCov_eq_canon', stores_first]
  simp only [congrFun (loadedX_eq arg1 harg1 X)]
  rfl

/-- The first point computes its output block from the rearranged activations. -/
theorem out_first (hc0 : cond0_0 i) :
    out0_A_3 (F := F) c i arg1 harg1 arg2 harg2 arg3 harg3 arg4 harg4 arg5 harg5 arg6 harg6 arg7 harg7 hc0 X W S
      = blockOf (permuted X) W S := by
  unfold out0_A_3
  rw [View.read_writes_eq_canon _ _ _ (cover0_A_3 c _ _ _ _ _ _ _ _ _ _ _ _ _ _ _ _ _ _ _)]
  unfold kernelRun0_A blockOf halfOf
  simp only [← loadedPairs_eq arg3 harg3 arg6 arg7 S, ← rereads_first c arg1 harg1 arg5 X, ← loadedW_eq arg2 harg2 _ W]
  rfl

end Cert.Q4

end
-- ==== Proof.Q4.Grid.lean ====
/-
  What the kernel's result array holds: at column `1024 t + j`, element `j` of the output block computed at point `t` from
  the activations rearranged at the first point, columns `1024 t …` of the bytes and of the scales.
-/
module

public import proofs.«01_k».proof.Proof.Q4.Points
public import Idealize.ShloMosaic.Lib.Claim
public import Idealize.ShloMosaic.Lib.Pipeline.ValueKit

@[expose] public section

noncomputable section

namespace Cert.Q4

open Cert.KernelIdeal Cert.KernelIdeal.Gen Cert.KernelIdeal.Value Idealize.ShloMosaic Idealize.ShloMosaic.TcCoe Idealize.SL.Sem

variable {F : FTy → Type} [FloatOps F] (m : (ℓ : Loc nD τ sig) → Buf (Elt F) ℓ) (c : Dev nD)

/-- The activations as the launch finds them: one row for each of the 96 samples. -/
def flatX : Vec F S96x3584 .bf16 := shapeCast S96x3584 (m ((c : Thread nD τ).loc main_arg0)) shapeCasts_S96x1x3584_S96x3584

/-- The launch's first array is that. -/
theorem V_flatX : V m c main_v0 = flatX m c := by
  entry_read
  rfl

/-- Every point's block of activations is the whole array, -/
theorem index0 : ∀ t : Fin cfg0.N, win0_0.index t = ![0, 0] := (by decide +kernel : ∀ t : Fin grid0.N, _)

/-- … its blocks of bytes and of scales start at column block `t`. -/
theorem index1 : ∀ t : Fin cfg0.N, win0_1.index t = ![0, t.val] := (by decide +kernel : ∀ t : Fin grid0.N, _)

theorem index2 : ∀ t : Fin cfg0.N, win0_2.index t = ![0, t.val] := (by decide +kernel : ∀ t : Fin grid0.N, _)

/-- The activations a point reads. -/
theorem iblk0 (t : Fin cfg0.N) : (iblk m c 0 t : Vec F S96x3584 .bf16) = flatX m c := by
  rw [← V_flatX]
  funext y
  show V m c main_v0 (((cfg0.win 0).blk t).view.emb y) = V m c main_v0 y
  congr 1
  funext a
  apply Fin.ext
  blk_simp [index0]
  fin_cases a <;> simp

/-- Column `1024 t + j` of the bytes or the scales. -/
def col (t : Fin cfg0.N) (j : Fin 1024) : Fin 37888 := ⟨1024 * t.val + j.val, by have : t.val < 37 := t.isLt; omega⟩

/-- The bytes a point reads. -/
theorem iblk1 (t : Fin cfg0.N) (r : Fin 1792) (j : Fin 1024) :
    (iblk m c 1 t : Vec F S1792x1024 .i8) (ix2 r j) = m ((c : Thread nD τ).loc main_arg1) (ix2 r (col t j)) := by
  rw [← V_main_arg1 m c]
  show V m c main_arg1 (((cfg0.win 1).blk t).view.emb (ix2 r j)) = V m c main_arg1 (ix2 r (col t j))
  congr 1
  funext a
  apply Fin.ext
  blk_simp [index1]
  fin_cases a <;> simp [col, Nat.mul_comm]

/-- The scales a point reads. -/
theorem iblk2 (t : Fin cfg0.N) (r : Fin 112) (j : Fin 1024) :
    (iblk m c 2 t : Vec F S112x1024 .bf16) (ix2 r j) = m ((c : Thread nD τ).loc main_arg2) (ix2 r (col t j)) := by
  rw [← V_main_arg2 m c]
  show V m c main_arg2 (((cfg0.win 2).blk t).view.emb (ix2 r j)) = V m c main_arg2 (ix2 r (col t j))
  congr 1
  funext a
  apply Fin.ext
  blk_simp [index2]
  fin_cases a <;> simp [col, Nat.mul_comm]

/-- What a point leaves: its output block and, in the scratch, the rearranged activations. -/
theorem outs (n : ℕ) (hn : n < cfg0.N) : outsAt0 m c n hn
    = (blockOf (permuted (flatX m c)) (iblk m c 1 ⟨n, hn⟩) (iblk m c 2 ⟨n, hn⟩), permuted (flatX m c)) := by
  induction n with
  | zero =>
    rw [outsAt0_zero, stAt0_A m c ⟨0, hn⟩ _ rfl, out_first, scratch_first, iblk0]
  | succ n ih =>
    rw [outsAt0_succ, ih, stAt0_B m c ⟨n + 1, hn⟩ _ (by have : n + 1 < 37 := hn; simp; omega), out_later, scratch_later]

/-- The result array. -/
theorem result (i : Fin 96) (t : Fin cfg0.N) (j : Fin 1024) : G3 m c (ix2 i (col t j))
    = blockOf (permuted (flatX m c)) (iblk m c 1 t) (iblk m c 2 t) (ix2 i j) := by
  obtain ⟨t, ht⟩ := t
  have e : pt3Of (ix2 i (col ⟨t, ht⟩ j)) = t := by
    have := i.isLt; have := j.isLt
    show 37 * (i.val / 96 - 0) + 1 * ((1024 * t + j.val) / 1024 - 0) = t
    omega
  have el : loc3Of (ix2 i (col ⟨t, ht⟩ j)) = ix2 i j := by
    have := i.isLt; have := j.isLt
    funext a
    apply Fin.ext
    fin_cases a <;> simp [col] <;> omega
  have h : pt3Of (ix2 i (col ⟨t, ht⟩ j)) < cfg0.N := by rw [e]; exact ht
  unfold G3
  rw [dif_pos h, el, fold0_congr m c _ _ t (by rw [Nat.zero_add]; exact ht) e, ← outsAt0_sweep m c t ht, outs m c t ht]

end Cert.Q4

end
-- ==== Proof.Q4.Value.lean ====
/-
  The kernel's result at an index: over the 112 groups, the 16 byte rows of a group and the two halves of a byte, the
  activation that goes with the code, times the code times the group's scale.
-/
module

public import proofs.«01_k».proof.Proof.Q4.Pieces
public import proofs.«01_k».proof.Proof.Q4.Permute
public import proofs.«01_k».proof.Proof.Q4.Grid

@[expose] public section

noncomputable section

namespace Cert.Q4

open Cert.KernelIdeal Cert.KernelIdeal.Gen Cert.KernelIdeal.Value Idealize.ShloMosaic Idealize.ShloMosaic.TcCoe Idealize.SL.Sem

/-- A sum over `m` runs of `n` consecutive places is one sum over all the places. -/
theorem sum_runs (m n K : ℕ) (hK : m * n = K) (f : Fin K → EReal) :
    ∑ c, f c = ∑ k : Fin m, ∑ q : Fin n, f ⟨n * k.val + q.val, by
      have := k.isLt; have := q.isLt; subst hK; nlinarith⟩ := by
  subst hK
  rw [← finProdFinEquiv.sum_comp, Fintype.sum_prod_type]
  refine Finset.sum_congr rfl fun k _ => Finset.sum_congr rfl fun q _ => congrArg f (Fin.ext ?_)
  show q.val + n * k.val = n * k.val + q.val
  exact Nat.add_comm _ _

/-- What activation column `c`, rearranged, contributes to an output element: bytes `b` and scales `s` are the element's column of each. -/
def contrib (x : Fin 3584 → EReal) (b : Fin 1792 → BitVec 8) (s : Fin 112 → EReal) (c : Fin 3584) : EReal :=
  x c * (((code (b ⟨c.val / 2, by omega⟩) ⟨c.val % 2, by omega⟩ : ℝ) : EReal) * s ⟨c.val / 32, by omega⟩)

/-- An output element, as the sum it is of: group, byte row of the group, half of the byte. -/
def dotQ4 (x : Fin 3584 → EReal) (b : Fin 1792 → BitVec 8) (s : Fin 112 → EReal) : EReal :=
  ∑ g : Fin 112, ∑ r : Fin 16, ∑ t : Fin 2, x ⟨32 * g.val + 16 * t.val + r.val, by omega⟩
    * (((code (b ⟨16 * g.val + r.val, by omega⟩) t : ℝ) : EReal) * s g)

/-- Half of the output block at an index. -/
theorem halfOf_apply (n : Fin 2) (X : Vec Ideal S96x3584 .bf16) (W : Vec Ideal S1792x1024 .i8) (S : Vec Ideal S112x1024 .bf16)
    (i : Fin 96) (j : Fin 512) : halfOf n X W S (ix2 i j)
      = ∑ c, contrib (fun c => X (ix2 i c)) (fun r => W (ix2 r ⟨512 * n.val + j.val, by omega⟩))
          (fun g => S (ix2 g ⟨512 * n.val + j.val, by omega⟩)) c := by
  rw [sum_runs 14 256 3584 rfl]
  unfold halfOf
  rw [half_apply]
  refine Finset.sum_congr rfl fun k _ => ?_
  rw [term_apply]
  refine Finset.sum_congr rfl fun q _ => ?_
  rw [pairs_apply]
  pointwise
  unfold contrib
  have e1 : (256 * k.val + q.val) / 2 = 128 * k.val + q.val / 2 := by omega
  have e2 : (256 * k.val + q.val) % 2 = q.val % 2 := by omega
  have e3 : (256 * k.val + q.val) / 32 = 8 * k.val + q.val / 32 := by omega
  simp only [e1, e2, e3]

/-- The output block at an index. -/
theorem blockOf_apply (X : Vec Ideal S96x3584 .bf16) (W : Vec Ideal S1792x1024 .i8) (S : Vec Ideal S112x1024 .bf16)
    (i : Fin 96) (j : Fin 1024) : blockOf X W S (ix2 i j)
      = ∑ c, contrib (fun c => X (ix2 i c)) (fun r => W (ix2 r j)) (fun g => S (ix2 g j)) c := by
  have e1 : ∀ q : Fin 512, (Rect.unit (s := S96x1024) ![0, 512] S96x512.size inb_S96x1024_S96x512_0_512).emb (ix2 i q)
      = ix2 i (⟨512 + q.val, by omega⟩ : Fin 1024) := by
    intro q
    funext a
    apply Fin.ext
    match a with
    | 0 => show 0 + 1 * i.val = i.val; omega
    | 1 => show 512 + 1 * q.val = 512 + q.val; omega
  have e0 : ∀ q : Fin 512, (Rect.unit (s := S96x1024) ![0, 0] S96x512.size inb_S96x1024_S96x512_0_0).emb (ix2 i q)
      = ix2 i (⟨q.val, by omega⟩ : Fin 1024) := by
    intro q
    funext a
    apply Fin.ext
    match a with
    | 0 => show 0 + 1 * i.val = i.val; omega
    | 1 => show 0 + 1 * q.val = q.val; omega
  unfold blockOf
  by_cases h : j.val < 512
  · have hj : j = (⟨(⟨j.val, h⟩ : Fin 512).val, by omega⟩ : Fin 1024) := rfl
    rw [View.canon_cons_of_not_mem]
    · rw [hj, ← e0 ⟨j.val, h⟩]
      refine (View.canon_cons_emb _ _ _ _).trans ((halfOf_apply 0 X W S i ⟨j.val, h⟩).trans ?_)
      have e : 512 * (0 : Fin 2).val + j.val = j.val := by simp
      simp only [e]
    · intro hm
      obtain ⟨y, hy⟩ := LoadRect.exists_idx_of_mem _ hm
      have h1 := congrArg (fun z : S96x1024.Idx => (z 1).val) hy
      have h2 : 512 + 1 * (y 1).val = j.val := h1
      omega
  · have hj : j = (⟨512 + (⟨j.val - 512, by omega⟩ : Fin 512).val, by simp; omega⟩ : Fin 1024) := Fin.ext (by simp; omega)
    conv_lhs => rw [hj, ← e1 ⟨j.val - 512, by omega⟩]
    refine (View.canon_cons_emb _ _ _ _).trans ((halfOf_apply 1 X W S i ⟨j.val - 512, by omega⟩).trans ?_)
    have e : 512 * (1 : Fin 2).val + (j.val - 512) = j.val := by simp; omega
    simp only [e]

/-- Rearranged activations against codes in order are activations in order against codes rearranged. -/
theorem sum_contrib (x : Fin 3584 → EReal) (b : Fin 1792 → BitVec 8) (s : Fin 112 → EReal) :
    ∑ c, contrib (fun c => x ⟨src c.val, src_lt c.val 112 (by omega)⟩) b s c = dotQ4 x b s := by
  rw [sum_runs 112 32 3584 rfl]
  unfold dotQ4
  refine Finset.sum_congr rfl fun g _ => ?_
  rw [sum_runs 16 2 32 rfl]
  refine Finset.sum_congr rfl fun r _ => Finset.sum_congr rfl fun t _ => ?_
  unfold contrib src
  have e1 : (32 * g.val + (2 * r.val + t.val)) / 2 = 16 * g.val + r.val := by omega
  have e2 : (32 * g.val + (2 * r.val + t.val)) % 2 = t.val := by omega
  have e3 : (32 * g.val + (2 * r.val + t.val)) / 32 = g.val := by omega
  have e4 : (32 * g.val + (2 * r.val + t.val)) % 32 / 2 = r.val := by omega
  simp only [e1, e2, e3, e4]

/-- The activations as rows, at an index. -/
theorem flat_apply (X : Vec Ideal S96x1x3584 .bf16) (i : Fin 96) (k : Fin 3584) :
    shapeCast S96x3584 X shapeCasts_S96x1x3584_S96x3584 (ix2 i k) = X (ix3 i 0 k) := by
  pointwise

/-- The kernel's result at an index. -/
theorem kernel_apply (m : (ℓ : Loc nD τ sig) → Buf (Elt Ideal) ℓ) (c : Dev nD) (i : Fin 96) (j : Fin 37888) :
    G3 m c (ix2 i j) = dotQ4 (fun k => m ((c : Thread nD τ).loc main_arg0) (ix3 i 0 k))
      (fun r => m ((c : Thread nD τ).loc main_arg1) (ix2 r j)) (fun g => m ((c : Thread nD τ).loc main_arg2) (ix2 g j)) := by
  obtain ⟨t, q, rfl⟩ : ∃ (t : Fin cfg0.N) (q : Fin 1024), j = col t q :=
    ⟨⟨j.val / 1024, by show _ < 37; omega⟩, ⟨j.val % 1024, by omega⟩, Fin.ext (by show j.val = 1024 * (j.val / 1024) + j.val % 1024; omega)⟩
  rw [result, blockOf_apply, ← sum_contrib]
  simp only [permuted_apply, iblk1, iblk2]
  have e : ∀ k : Fin 3584, flatX m c (ix2 i k) = m ((c : Thread nD τ).loc main_arg0) (ix3 i 0 k) := by
    intro k
    unfold flatX
    generalize m ((c : Thread nD τ).loc main_arg0) = X
    exact flat_apply X i k
  simp only [e]

end Cert.Q4

end
-- ==== Proof.Q4.Reference.lean ====
/-
  The reference's result at an index: the low halves' sum plus the high halves' sum, which is the sum over both halves.
-/
module

public import proofs.«01_k».proof.Proof.Q4.Value
public import proofs.«01_k».proof.Proof.Gen.ReferenceIdeal.Run
public import proofs.«01_k».proof.Proof.Gen.ReferenceIdeal

@[expose] public section

noncomputable section

namespace Cert.Q4

open Cert.ReferenceIdeal Cert.ReferenceIdeal.Gen Idealize.ShloMosaic Idealize.ShloMosaic.TcCoe Idealize.SL.Sem

/-- The dequantized half: an integer code, minus 8, times its scale. -/
def dequant (u : IVec S112x16x37888 32) (s : FVec Ideal S112x37888 .bf16) : FVec Ideal S112x16x37888 .bf16 :=
  mulf (subf (sitofp .bf16 u) (broadcastInDim S112x16x37888 ![] bcast_S_S112x16x37888 (constant S_ .bf16 0x4100#16)))
    (broadcastInDim S112x16x37888 ![0, 1, 2] bcast_S112x1x37888_S112x16x37888_0_1_2
      (broadcastInDim S112x1x37888 ![0, 2] bcast_S112x37888_S112x1x37888_0_2 s))

/-- The bytes as 32-bit integers, by group. -/
def wide (b : IVec S1792x37888 8) : IVec S112x16x37888 32 :=
  shapeCast _ (extui 32 b natLt_8_32) shapeCasts_S1792x37888_S112x16x37888

/-- The low and the high halves. -/
def halves (b : IVec S1792x37888 8) (t : Fin 2) : IVec S112x16x37888 32 :=
  if t = 0 then andi (wide b) (broadcastInDim S112x16x37888 ![] bcast_S_S112x16x37888 (constantI S_ 32 15#32))
    else Host.shrsi (wide b) (broadcastInDim S112x16x37888 ![] bcast_S_S112x16x37888 (constantI S_ 32 4#32))

/-- The two halves of a byte are its codes plus 8. -/
theorem half_word : ∀ b : BitVec 8, (IntOp.andi (b.setWidth 32) 15#32).toInt = code b 0 + 8
    ∧ (IntOp.shrsi .host (b.setWidth 32) 4#32).toInt = code b 1 + 8 := by
  decide +kernel

/-- The constant that the reference subtracts. -/
theorem ofBits_eight : Ideal.ofBits .bf16 0x4100#16 = ((8 : ℝ) : EReal) := by
  simp [Ideal.ofBits, Ideal.ieee, -EReal.coe_mul]; norm_num

/-- An integer 8 above a code, converted and lowered by 8, is the code. -/
theorem sub_eight (u : BitVec 32) (k : ℤ) (h : u.toInt = k + 8) :
    FloatOps.sitofp (F := Ideal) .bf16 u - Ideal.ofBits .bf16 0x4100#16 = ((k : ℝ) : EReal) := by
  rw [ofBits_eight]
  show ((u.toInt : ℝ) : EReal) - _ = _
  rw [h, ← EReal.coe_sub]
  exact congrArg _ (by push_cast; ring)

/-- A dequantized weight of the reference. -/
theorem dequant_apply (b : IVec S1792x37888 8) (t : Fin 2) (s : FVec Ideal S112x37888 .bf16) (g : Fin 112) (r : Fin 16) (j : Fin 37888) :
    dequant (halves b t) s (ix3 g r j) = ((code (b (ix2 ⟨16 * g.val + r.val, by omega⟩ j)) t : ℝ) : EReal) * s (ix2 g j) := by
  have e : g.val * 16 + r.val = 16 * g.val + r.val := by omega
  unfold dequant
  pointwise
  match t with
  | 0 =>
    simp only [halves, if_pos, wide]
    pointwise
    simp only [e]
    rw [sub_eight _ _ (half_word _).1]
  | 1 =>
    simp only [halves, wide]
    pointwise
    simp only [e]
    rw [sub_eight _ _ (half_word _).2]

/-- One of the reference's two products. -/
theorem product_apply (x : FVec Ideal S96x1x112x16 .bf16) (w : FVec Ideal S112x16x37888 .bf16) (i : Fin 96) (j : Fin 37888) :
    Host.dotGeneral dot_S96x1x112x16_S112x16x37888_S96x1x37888_23_01_01_2_n_n none x w (ix3 i 0 j)
      = ∑ g : Fin 112, ∑ r : Fin 16, x (ix4 i 0 g r) * w (ix3 g r j) := by
  pointwise

/-- The activations that go with the low halves (`t = 0`) or with the high halves. -/
def acts (x : FVec Ideal S96x1x3584 .bf16) (t : Fin 2) : FVec Ideal S96x1x112x16 .bf16 :=
  if t = 0 then extractStridedSlice S96x1x112x16 ![0, 0, 0, 0] (shapeCast _ x shapeCasts_S96x1x3584_S96x1x112x32)
      slices_S96x1x112x32_S96x1x112x16_0_0_0_0
    else extractStridedSlice S96x1x112x16 ![0, 0, 0, 16] (shapeCast _ x shapeCasts_S96x1x3584_S96x1x112x32)
      slices_S96x1x112x32_S96x1x112x16_0_0_0_16

/-- Group `g`'s activation `16 t + r`. -/
theorem acts_apply (x : FVec Ideal S96x1x3584 .bf16) (t : Fin 2) (i : Fin 96) (g : Fin 112) (r : Fin 16) :
    acts x t (ix4 i 0 g r) = x (ix3 i 0 ⟨32 * g.val + 16 * t.val + r.val, by omega⟩) := by
  match t with
  | 0 =>
    simp only [acts, if_pos]
    pointwise
    congr 2
    apply Fin.ext
    show g.val * 32 + r.val = 32 * g.val + 16 * 0 + r.val
    omega
  | 1 =>
    simp only [acts]
    pointwise
    congr 2
    apply Fin.ext
    show g.val * 32 + (16 + r.val) = 32 * g.val + 16 * 1 + r.val
    omega

/-- The reference's result, of its three arguments. -/
def refValue (x : FVec Ideal S96x1x3584 .bf16) (b : IVec S1792x37888 8) (s : FVec Ideal S112x37888 .bf16) :
    FVec Ideal S96x37888 .bf16 :=
  shapeCast _ (truncf .bf16 (addf
    (Host.dotGeneral dot_S96x1x112x16_S112x16x37888_S96x1x37888_23_01_01_2_n_n none (acts x 0) (dequant (halves b 0) s))
    (Host.dotGeneral dot_S96x1x112x16_S112x16x37888_S96x1x37888_23_01_01_2_n_n none (acts x 1) (dequant (halves b 1) s)))
    bitsLt_bf16_f32) shapeCasts_S96x1x37888_S96x37888

/-- The reference's result at an index. -/
theorem refValue_apply (x : FVec Ideal S96x1x3584 .bf16) (b : IVec S1792x37888 8) (s : FVec Ideal S112x37888 .bf16)
    (i : Fin 96) (j : Fin 37888) : refValue x b s (ix2 i j)
      = dotQ4 (fun k => x (ix3 i 0 k)) (fun r => b (ix2 r j)) (fun g => s (ix2 g j)) := by
  have h : refValue x b s (ix2 i j)
      = Host.dotGeneral dot_S96x1x112x16_S112x16x37888_S96x1x37888_23_01_01_2_n_n none (acts x 0) (dequant (halves b 0) s) (ix3 i 0 j)
        + Host.dotGeneral dot_S96x1x112x16_S112x16x37888_S96x1x37888_23_01_01_2_n_n none (acts x 1) (dequant (halves b 1) s) (ix3 i 0 j) := by
    unfold refValue
    generalize Host.dotGeneral dot_S96x1x112x16_S112x16x37888_S96x1x37888_23_01_01_2_n_n none (acts x 0) (dequant (halves b 0) s) = A
    generalize Host.dotGeneral dot_S96x1x112x16_S112x16x37888_S96x1x37888_23_01_01_2_n_n none (acts x 1) (dequant (halves b 1) s) = B
    pointwise
  rw [h, product_apply, product_apply, ← Finset.sum_add_distrib]
  unfold dotQ4
  refine Finset.sum_congr rfl fun g _ => ?_
  rw [← Finset.sum_add_distrib]
  refine Finset.sum_congr rfl fun r _ => ?_
  rw [Fin.sum_univ_two, acts_apply, acts_apply, dequant_apply, dequant_apply]

/-- The reference's run leaves that value and its arguments unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = refValue (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

end Cert.Q4

end
-- ==== Proof.lean ====
/-
  The proof of `Cert.Claim`. The frames are the generated runs; the rewriting rules' statements are the rules' own theorems;
  the value claim compares the kernel's result (`Proof/Q4/Value.lean`) with the reference's (`Proof/Q4/Reference.lean`): at
  every index both are the same sum over groups, byte rows and halves of a byte.
-/
module

public import proofs.«01_k».proof.Proof.Q4.Reference
public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import Idealize.ShloMosaic.Adequacy
public import Idealize.ShloMosaic.Init
public import Idealize.ShloMosaic.Lib.Bf16Pair
public import Idealize.ShloMosaic.Lib.Bf16PairInverse

@[expose] public section

noncomputable section

namespace Cert.Proof

open Idealize.ShloMosaic Idealize.SL.Sem

/-- The kernel runs, its arguments unchanged, on machine words … -/
theorem frame_kernel : Cert.quiescent_Kernel := fun m ρ _ => Cert.Kernel.Gen.frame m ρ

/-- … and on extended reals; -/
theorem frame_kernelIdeal : Cert.quiescent_KernelIdeal := fun m ρ _ => Cert.KernelIdeal.Gen.frame m ρ

/-- … so does the reference, which declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.Q4.reference_run m ρ)

/-- Every rewriting that gave the program on extended reals keeps what the words mean. -/
theorem preserves : Cert.preserves_Kernel_KernelIdeal :=
  ⟨IdealRules.bf16_pair.bufferStatement _ _, IdealRules.bf16_pair.statement _ _, IdealRules.bf16_pair.statement _ _,
    IdealRules.bf16_pair.statement _ _, IdealRules.bf16_pair.statement _ _⟩

/-- The kernel's result is the reference's. -/
theorem algebraic : Cert.algebraic_KernelIdeal_ReferenceIdeal := by
  intro m g m' g' _ hm
  refine ⟨fun c => Cert.KernelIdeal.Value.G3 m c, Cert.KernelIdeal.Value.run m g, ?_⟩
  refine (θ_run Cert.ReferenceIdeal.defs _ _).mono (fun r h c => ⟨(h c).1.trans ?_, (h c).2⟩) (Cert.Q4.reference_run m' g')
  obtain ⟨h0, h1, h2⟩ := hm c
  rw [h0, h1, h2]
  funext i
  obtain ⟨a, b, rfl⟩ : ∃ (a : Fin 96) (b : Fin 37888), i = ix2 a b := ⟨i 0, i 1, eq_ix2 i⟩
  exact (Cert.Q4.refValue_apply _ _ _ a b).trans (Cert.Q4.kernel_apply m c a b).symm

theorem claim : Cert.Claim := ⟨Cert.Kernel.Gen.facts, Cert.KernelIdeal.Gen.facts, Cert.ReferenceIdeal.Gen.facts,
  frame_kernel, frame_kernelIdeal, frame_reference, preserves, algebraic⟩

end Cert.Proof

end
